-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x5120 : Shape := ⟨3, ![1, 6144, 5120]⟩
abbrev S1x6144x1 : Shape := ⟨3, ![1, 6144, 1]⟩
abbrev S5120x2560 : Shape := ⟨2, ![5120, 2560]⟩
abbrev S1x2560 : Shape := ⟨2, ![1, 2560]⟩
abbrev S6144x5120 : Shape := ⟨2, ![6144, 5120]⟩
abbrev S6144x1 : Shape := ⟨2, ![6144, 1]⟩
abbrev S6144x2560 : Shape := ⟨2, ![6144, 2560]⟩
abbrev S512x5120 : Shape := ⟨2, ![512, 5120]⟩
abbrev S512x1 : Shape := ⟨2, ![512, 1]⟩
abbrev S512x2560 : Shape := ⟨2, ![512, 2560]⟩
abbrev S5120x512 : Shape := ⟨2, ![5120, 512]⟩
abbrev S512x512 : Shape := ⟨2, ![512, 512]⟩
abbrev S1x512 : Shape := ⟨2, ![1, 512]⟩
abbrev S512 : Shape := ⟨1, ![512]⟩

abbrev nBuf : Space → Nat
  | .hbm => 8
  | .vmem => 11
  | .smem => 0
  | _ => 0

abbrev bufTy : (tb : Table) → Fin (tcTables nBuf tb) → BufTy
  | .hbm, ⟨0, _⟩ => ⟨S1x6144x5120, .fp8e4m3⟩
  | .hbm, ⟨1, _⟩ => ⟨S1x6144x1, .f32⟩
  | .hbm, ⟨2, _⟩ => ⟨S5120x2560, .fp8e4m3⟩
  | .hbm, ⟨3, _⟩ => ⟨S1x2560, .f32⟩
  | .hbm, ⟨4, _⟩ => ⟨S6144x5120, .fp8e4m3⟩
  | .hbm, ⟨5, _⟩ => ⟨S6144x1, .f32⟩
  | .hbm, ⟨6, _⟩ => ⟨S6144x2560, .fp8e4m3⟩
  | .hbm, ⟨7, _⟩ => ⟨S6144x1, .f32⟩
  | .local _ .vmem, ⟨0, _⟩ => ⟨S512x5120, .fp8e4m3⟩
  | .local _ .vmem, ⟨1, _⟩ => ⟨S512x5120, .fp8e4m3⟩
  | .local _ .vmem, ⟨2, _⟩ => ⟨S512x1, .f32⟩
  | .local _ .vmem, ⟨3, _⟩ => ⟨S512x1, .f32⟩
  | .local _ .vmem, ⟨4, _⟩ => ⟨S5120x2560, .fp8e4m3⟩
  | .local _ .vmem, ⟨5, _⟩ => ⟨S1x2560, .f32⟩
  | .local _ .vmem, ⟨6, _⟩ => ⟨S512x2560, .fp8e4m3⟩
  | .local _ .vmem, ⟨7, _⟩ => ⟨S512x2560, .fp8e4m3⟩
  | .local _ .vmem, ⟨8, _⟩ => ⟨S512x1, .f32⟩
  | .local _ .vmem, ⟨9, _⟩ => ⟨S512x1, .f32⟩
  | .local _ .vmem, ⟨10, _⟩ => ⟨S512x2560, .f32⟩
  | _, _ => ⟨S1x6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x6144x5120 : Shape := ⟨3, ![1, 6144, 5120]⟩
abbrev S1x6144x1 : Shape := ⟨3, ![1, 6144, 1]⟩
abbrev S5120x2560 : Shape := ⟨2, ![5120, 2560]⟩
abbrev S1x2560 : Shape := ⟨2, ![1, 2560]⟩
abbrev S6144x5120 : Shape := ⟨2, ![6144, 5120]⟩
abbrev S6144x1 : Shape := ⟨2, ![6144, 1]⟩
abbrev S6144x2560 : Shape := ⟨2, ![6144, 2560]⟩
abbrev S6144 : Shape := ⟨1, ![6144]⟩

abbrev nBuf : Space → Nat
  | .hbm => 8
  | .vmem => 6
  | .smem => 0
  | _ => 0

abbrev bufTy : (tb : Table) → Fin (tcTables nBuf tb) → BufTy
  | .hbm, ⟨0, _⟩ => ⟨S1x6144x5120, .fp8e4m3⟩
  | .hbm, ⟨1, _⟩ => ⟨S1x6144x1, .f32⟩
  | .hbm, ⟨2, _⟩ => ⟨S5120x2560, .fp8e4m3⟩
  | .hbm, ⟨3, _⟩ => ⟨S1x2560, .f32⟩
  | .hbm, ⟨4, _⟩ => ⟨S6144x5120, .fp8e4m3⟩
  | .hbm, ⟨5, _⟩ => ⟨S6144x1, .f32⟩
  | .hbm, ⟨6, _⟩ => ⟨S6144x2560, .fp8e4m3⟩
  | .hbm, ⟨7, _⟩ => ⟨S6144x1, .f32⟩
  | .local _ .vmem, ⟨0, _⟩ => ⟨S6144x5120, .fp8e4m3⟩
  | .local _ .vmem, ⟨1, _⟩ => ⟨S6144x1, .f32⟩
  | .local _ .vmem, ⟨2, _⟩ => ⟨S5120x2560, .fp8e4m3⟩
  | .local _ .vmem, ⟨3, _⟩ => ⟨S1x2560, .f32⟩
  | .local _ .vmem, ⟨4, _⟩ => ⟨S6144x2560, .fp8e4m3⟩
  | .local _ .vmem, ⟨5, _⟩ => ⟨S6144x1, .f32⟩
  | _, _ => ⟨S1x6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Power.lean ====
/- Powers of two as f32 words, read as extended reals: the word whose exponent field is `n` and whose other bits are
   zero denotes `2 ^ (n - 127)`. -/
module

public import Idealize.ShloMosaic.PureOps.Ideal.Laws

@[expose] public section

noncomputable section

namespace Cert.Power

open Idealize.ShloMosaic

/-- The extended real `2 ^ z`. -/
def pw (z : ℤ) : EReal := (((2 : ℝ) ^ z : ℝ) : EReal)

/-- Powers of two are in the order of their exponents. -/
theorem pw_le {y z : ℤ} (h : y ≤ z) : pw y ≤ pw z :=
  EReal.coe_le_coe_iff.mpr (zpow_le_zpow_right₀ (by norm_num) h)

/-- A power of two is positive. -/
theorem pw_pos (z : ℤ) : 0 < pw z := EReal.coe_pos.mpr (by positivity)

/-- The three fields of the word `n <<< 23`, for `n` below 256: sign 0, exponent `n`, fraction 0. -/
theorem fields : ∀ n : Fin 256, ((BitVec.ofNat 32 n.val <<< (23#32)).extractLsb' 31 1 == 1#1) = false
    ∧ ((BitVec.ofNat 32 n.val <<< (23#32)).extractLsb' 23 8).toNat = n.val
    ∧ ((BitVec.ofNat 32 n.val <<< (23#32)).extractLsb' 0 23).toNat = 0 := by decide +kernel

/-- A word with sign 0, exponent field `n` of a normal number and fraction 0 denotes `2 ^ (n - 127)`. -/
theorem ieee_of_fields (b : BitVec 32) (n : ℕ) (h1 : 1 ≤ n) (h2 : n ≤ 254) (hs : (b.extractLsb' 31 1 == 1#1) = false)
    (he : (b.extractLsb' 23 8).toNat = n) (hf : (b.extractLsb' 0 23).toNat = 0) : Ideal.ieee 8 23 b = pw ((n : ℤ) - 127) := by
  have hs' : (b.extractLsb' (8 + 23) 1 == 1#1) = false := hs
  unfold Ideal.ieee
  dsimp only
  rw [he, hf, hs', if_neg (show ¬ n = 2 ^ 8 - 1 by omega), if_neg (show ¬ n = 0 by omega)]
  unfold pw
  rw [show ((n : ℤ) - 127) = ((n : ℤ) - (2 ^ (8 - 1) - 1) - (23 : ℕ)) + 23 by norm_num,
    zpow_add₀ (by norm_num : (2 : ℝ) ≠ 0)]
  refine congrArg _ ?_
  norm_num
  ring

/-- The word with exponent field `n` denotes `2 ^ (n - 127)`, for every field of a normal number. -/
theorem ofBits_shl (n : ℕ) (h1 : 1 ≤ n) (h2 : n ≤ 254) :
    Ideal.ofBits .f32 (IntOp.shli .vector (BitVec.ofNat 32 n) 23#32) = pw ((n : ℤ) - 127) :=
  have h := fields ⟨n, by omega⟩
  ieee_of_fields (BitVec.ofNat 32 n <<< (23#32)) n h1 h2 h.1 h.2.1 h.2.2

/-- `2 ^ z` as the exponential to base two of the integer `z`. -/
theorem exp2_int (z : ℤ) : Ideal.exp2 (((z : ℝ) : ℝ) : EReal) = pw z := by
  show ((Real.rpow 2 (z : ℝ) : ℝ) : EReal) = _
  unfold pw
  congr 1
  exact Real.rpow_intCast 2 z

end Cert.Power

end
-- ==== Proof.Exponent.lean ====
/- The exponent of a row's scale, computed in two ways from the row's largest absolute value `a`.

   The kernel finds the exponent field of `v = a / 448` by comparing `v` with eight powers of two, each read off an f32
   word; the reference takes the floor of the base-two logarithm of `v`, adds one and clips to [-126, 126]. Over the
   extended reals both give the same power of two and the same reciprocal, for every `a ≥ 0`, infinity included. -/
module

public import proofs.«01_k».proof.Proof.Power

@[expose] public section

noncomputable section

namespace Cert.Exponent

open Idealize.ShloMosaic Cert.Power

/-! ## The two computations, as the programs print them, on one row -/

/-- `a` times the f32 nearest to 1/448. -/
def ratio (a : Ideal .f32) : Ideal .f32 := FloatOps.mulf a (Scalar.ofBits .f32 0x3B124925#32)

/-- One comparison of the kernel's search: from the field found so far, up by `s` if `v` reaches that power of two. -/
def step (v : Ideal .f32) (f s : BitVec 32) : BitVec 32 :=
  Scalar.select (FloatOps.cmpf .oge v (FloatOps.ofBits .f32 (IntOp.shli .vector (IntOp.addi f s) 23#32))) (IntOp.addi f s) f

/-- The kernel's search after its first four comparisons. -/
def searchHi (v : Ideal .f32) : BitVec 32 := step v (step v (step v (step v 0#32 126#32) 63#32) 32#32) 16#32

/-- The kernel's search: eight comparisons. -/
def search (v : Ideal .f32) : BitVec 32 := step v (step v (step v (step v (searchHi v) 8#32) 4#32) 2#32) 1#32

/-- The kernel's exponent: the field less 126, or zero for a row of zeros. -/
def expoK (a : Ideal .f32) : BitVec 32 :=
  Scalar.select (FloatOps.cmpf .oeq a (Scalar.ofBits .f32 0x00000000#32)) 0#32 (IntOp.subi (search (ratio a)) 126#32)

/-- The kernel's scale: the word with exponent field `e + 127`. -/
def scaleK (a : Ideal .f32) : Ideal .f32 := FloatOps.ofBits .f32 (IntOp.shli .vector (IntOp.addi (expoK a) 127#32) 23#32)

/-- The kernel's reciprocal scale: the word with exponent field `127 - e`. -/
def invK (a : Ideal .f32) : Ideal .f32 := FloatOps.ofBits .f32 (IntOp.shli .vector (IntOp.subi 127#32 (expoK a)) 23#32)

/-- The reference's exponent: the floor of the base-two logarithm plus one, clipped, or zero for a row of zeros. -/
def expoR (a : Ideal .f32) : Ideal .f32 :=
  Scalar.select (FloatOps.cmpf .oeq a (Scalar.ofBits .f32 0x00000000#32)) (Scalar.ofBits .f32 0x00000000#32)
    (FloatOps.minimumf (Scalar.ofBits .f32 0x42FC0000#32) (FloatOps.maximumf (Scalar.ofBits .f32 0xC2FC0000#32)
      (FloatOps.addf (FloatOps.floor (FloatOps.divf (FloatOps.log (ratio a)) (FloatOps.log (Scalar.ofBits .f32 0x40000000#32))))
        (Scalar.ofBits .f32 0x3F800000#32))))

/-- The reference's scale. -/
def scaleR (a : Ideal .f32) : Ideal .f32 := FloatOps.exp2 (expoR a)

/-- The reference's reciprocal scale. -/
def invR (a : Ideal .f32) : Ideal .f32 := FloatOps.exp2 (FloatOps.subf (Scalar.ofBits .f32 0x00000000#32) (expoR a))

/-! ## The constants -/

theorem c_two : (Scalar.ofBits .f32 0x40000000#32 : Ideal .f32) = ((2 : ℝ) : EReal) := by
  show Ideal.ofBits .f32 _ = _
  simp [Ideal.ofBits, Ideal.ieee]; rw [← EReal.coe_mul]; congr 1; norm_num

theorem c_one : (Scalar.ofBits .f32 0x3F800000#32 : Ideal .f32) = ((1 : ℝ) : EReal) := by
  show Ideal.ofBits .f32 _ = _
  simp [Ideal.ofBits, Ideal.ieee]; rw [← EReal.coe_mul, ← EReal.coe_one]; congr 1; norm_num

theorem c_126 : (Scalar.ofBits .f32 0x42FC0000#32 : Ideal .f32) = ((126 : ℝ) : EReal) := by
  show Ideal.ofBits .f32 _ = _
  simp [Ideal.ofBits, Ideal.ieee]; rw [← EReal.coe_mul]; congr 1; norm_num

theorem c_neg126 : (Scalar.ofBits .f32 0xC2FC0000#32 : Ideal .f32) = ((-126 : ℝ) : EReal) := by
  show Ideal.ofBits .f32 _ = _
  simp [Ideal.ofBits, Ideal.ieee]; rw [← EReal.coe_mul]; congr 1; norm_num

theorem c_zero : (Scalar.ofBits .f32 0x00000000#32 : Ideal .f32) = (0 : EReal) := Ideal.ofBits_zero_f32

/-- The factor 1/448 is a positive real. -/
theorem c_ratio : ∃ r : ℝ, 0 < r ∧ (Scalar.ofBits .f32 0x3B124925#32 : Ideal .f32) = (r : EReal) := by
  refine ⟨9586981 * (2 ^ 32)⁻¹, by positivity, ?_⟩
  show Ideal.ofBits .f32 _ = _
  simp [Ideal.ofBits, Ideal.ieee]

/-! ## The search -/

/-- What the search knows while its remaining steps sum to `R`: `v` reaches the power of two of the field `n` found so
    far, and does not reach the one of `n + R + 1` unless that is beyond the search's range. -/
def Inv (v : EReal) (n R : ℕ) : Prop :=
  (n = 0 ∨ pw ((n : ℤ) - 127) ≤ v) ∧ (n + R = 252 ∨ v < pw ((n + R + 1 : ℕ) - 127))

/-- One comparison keeps what the search knows. -/
theorem step_inv (v : EReal) (n s R : ℕ) (hs1 : 1 ≤ s) (hs : s ≤ R + 1) (hn : n + (s + R) ≤ 252) (h : Inv v n (s + R)) :
    ∃ n', step v (BitVec.ofNat 32 n) (BitVec.ofNat 32 s) = BitVec.ofNat 32 n' ∧ n' + R ≤ 252 ∧ Inv v n' R := by
  have hadd : IntOp.addi (BitVec.ofNat 32 n) (BitVec.ofNat 32 s) = BitVec.ofNat 32 (n + s) := (BitVec.ofNat_add n s).symm
  have hp : (FloatOps.ofBits .f32 (IntOp.shli .vector (BitVec.ofNat 32 (n + s)) 23#32) : Ideal .f32) = pw ((n + s : ℕ) - 127) :=
    ofBits_shl (n + s) (by omega) (by omega)
  unfold step
  rw [hadd, hp, Ideal.cmpf_def]
  by_cases hv : pw ((n + s : ℕ) - 127) ≤ v
  · refine ⟨n + s, ?_, by omega, .inr hv, ?_⟩
    · simp only [Ideal.cmp, hv, Scalar.select, decide_true]; rfl
    · have := h.2
      rwa [← Nat.add_assoc] at this
  · refine ⟨n, ?_, by omega, h.1, ?_⟩
    · simp only [Ideal.cmp, hv, Scalar.select, decide_false]; rfl
    · right
      refine lt_of_lt_of_le (not_le.mp hv) (pw_le ?_)
      omega

/-- The field the search ends with: at most 252, and the greatest `n` up to there whose power of two `v` reaches. -/
theorem search_spec (v : EReal) : ∃ n : ℕ, search v = BitVec.ofNat 32 n ∧ n ≤ 252 ∧ Inv v n 0 := by
  have h0 : Inv v 0 (126 + 126) := ⟨.inl rfl, .inl rfl⟩
  obtain ⟨n1, e1, b1, i1⟩ := step_inv v 0 126 126 (by omega) (by omega) (by omega) h0
  obtain ⟨n2, e2, b2, i2⟩ := step_inv v n1 63 63 (by omega) (by omega) (by omega) i1
  obtain ⟨n3, e3, b3, i3⟩ := step_inv v n2 32 31 (by omega) (by omega) (by omega) i2
  obtain ⟨n4, e4, b4, i4⟩ := step_inv v n3 16 15 (by omega) (by omega) (by omega) i3
  obtain ⟨n5, e5, b5, i5⟩ := step_inv v n4 8 7 (by omega) (by omega) (by omega) i4
  obtain ⟨n6, e6, b6, i6⟩ := step_inv v n5 4 3 (by omega) (by omega) (by omega) i5
  obtain ⟨n7, e7, b7, i7⟩ := step_inv v n6 2 1 (by omega) (by omega) (by omega) i6
  obtain ⟨n8, e8, b8, i8⟩ := step_inv v n7 1 0 (by omega) (by omega) (by omega) i7
  refine ⟨n8, ?_, by omega, i8⟩
  unfold search searchHi
  rw [show (0#32) = BitVec.ofNat 32 0 from rfl, e1, e2, e3, e4, e5, e6, e7, e8]

/-! ## The logarithm -/

/-- The reference's clipped exponent of a positive `v` is the search's field less 126. -/
theorem clip_eq (v : EReal) (hv : 0 < v) (n : ℕ) (hn : n ≤ 252) (h : Inv v n 0) :
    min (((126 : ℝ) : EReal)) (max (((-126 : ℝ) : EReal))
      (Ideal.liftRound Int.floor (Ideal.div (Ideal.log v) (Ideal.log ((2 : ℝ) : EReal))) + ((1 : ℝ) : EReal)))
      = ((((n : ℤ) - 126 : ℤ) : ℝ) : EReal) := by
  have hl2 : (0 : ℝ) < Real.log 2 := Real.log_pos (by norm_num)
  have hlog2 : Ideal.log ((2 : ℝ) : EReal) = ((Real.log 2 : ℝ) : EReal) := by
    show (if (2 : ℝ) ≤ 0 then (⊥ : EReal) else (Real.log 2 : EReal)) = _
    rw [if_neg (by norm_num)]
  rw [hlog2]
  induction v using EReal.rec with
  | bot => simp at hv
  | top =>
    have hn2 : n = 252 := by
      rcases h.2 with h | h
      · omega
      · exact absurd h (by simp)
    subst hn2
    have : Ideal.div (Ideal.log ⊤) ((Real.log 2 : ℝ) : EReal) = ⊤ := by
      show Ideal.div ⊤ _ = _
      unfold Ideal.div
      rw [if_neg (by simpa using hl2.ne'), ← EReal.coe_inv, EReal.top_mul_coe_of_pos (inv_pos.mpr hl2)]
    rw [this, Ideal.liftRound_top, EReal.top_add_coe, max_eq_right le_top, min_eq_left le_top]
    norm_num
  | coe r =>
    have hr : 0 < r := by simpa using hv
    have hlog : Ideal.log (r : EReal) = ((Real.log r : ℝ) : EReal) := by
      show (if r ≤ 0 then (⊥ : EReal) else (Real.log r : EReal)) = _
      rw [if_neg (by linarith)]
    have hdiv : Ideal.div ((Real.log r : ℝ) : EReal) ((Real.log 2 : ℝ) : EReal) = ((Real.log r / Real.log 2 : ℝ) : EReal) := by
      unfold Ideal.div
      rw [if_neg (by simpa using hl2.ne'), ← EReal.coe_inv, ← EReal.coe_mul]
      rfl
    rw [hlog, hdiv, Ideal.liftRound_coe, ← EReal.coe_add, ← EReal.coe_strictMono.monotone.map_max,
      ← EReal.coe_strictMono.monotone.map_min]
    congr 1
    have hcast : ((⌊Real.log r / Real.log 2⌋ : ℝ) + 1) = ((⌊Real.log r / Real.log 2⌋ + 1 : ℤ) : ℝ) := by push_cast; ring
    rw [hcast, show (126 : ℝ) = ((126 : ℤ) : ℝ) by norm_num, ← Int.cast_neg, ← Int.cast_max, ← Int.cast_min]
    congr 1
    -- the two bounds on the floor that the search gives
    have hlo : n = 0 ∨ (n : ℤ) - 127 ≤ ⌊Real.log r / Real.log 2⌋ := by
      refine h.1.imp_right fun hle => Int.le_floor.mpr ?_
      have hle' : (2 : ℝ) ^ ((n : ℤ) - 127) ≤ r := EReal.coe_le_coe_iff.mp hle
      rw [le_div_iff₀ hl2, ← Real.log_zpow]
      exact Real.log_le_log (by positivity) hle'
    have hhi : n = 252 ∨ ⌊Real.log r / Real.log 2⌋ < (n : ℤ) - 126 := by
      refine h.2.imp (fun h => by omega) fun hlt => Int.floor_lt.mpr ?_
      have hlt' : r < (2 : ℝ) ^ (((n + 0 + 1 : ℕ) : ℤ) - 127) := EReal.coe_lt_coe_iff.mp hlt
      have : (((n + 0 + 1 : ℕ) : ℤ) - 127) = (n : ℤ) - 126 := by push_cast; ring
      rw [this] at hlt'
      rw [div_lt_iff₀ hl2, ← Real.log_zpow]
      exact Real.log_lt_log hr hlt'
    omega

/-! ## The two computations agree -/

/-- The two exponents of a row of absolute maximum `a ≥ 0`: for one integer `z` in [-126, 126], the reference's is `z`, and
    the kernel's two fields are those of `2 ^ z` and of `2 ^ -z`. -/
theorem expo_eq (a : EReal) (ha : 0 ≤ a) : ∃ z : ℤ, -126 ≤ z ∧ z ≤ 126 ∧ expoR a = (((z : ℤ) : ℝ) : EReal)
    ∧ IntOp.addi (expoK a) 127#32 = BitVec.ofNat 32 (z + 127).toNat
    ∧ IntOp.subi 127#32 (expoK a) = BitVec.ofNat 32 (127 - z).toNat := by
  unfold expoR expoK
  rw [c_two, c_one, c_126, c_neg126, c_zero, Ideal.cmpf_def]
  by_cases h0 : a = 0
  · refine ⟨0, by omega, by omega, ?_, ?_, ?_⟩
    · simp [Ideal.cmp, h0, Scalar.select]
    · simp [Ideal.cmp, h0, Scalar.select]; rfl
    · simp [Ideal.cmp, h0, Scalar.select]; rfl
  · have hpos : 0 < ratio a := by
      obtain ⟨r, hr, e⟩ := c_ratio
      unfold ratio
      rw [e]
      exact EReal.mul_pos (lt_of_le_of_ne ha (Ne.symm h0)) (EReal.coe_pos.mpr hr)
    obtain ⟨n, en, bn, hn⟩ := search_spec (ratio a)
    have hc := clip_eq (ratio a) hpos n bn hn
    refine ⟨(n : ℤ) - 126, by omega, by omega, ?_, ?_, ?_⟩
    · simp only [Ideal.cmp, h0, Scalar.select, decide_false]
      exact hc
    · simp only [Ideal.cmp, h0, Scalar.select, decide_false, en]
      show BitVec.ofNat 32 n - 126#32 + 127#32 = _
      have : ((n : ℤ) - 126 + 127).toNat = n + 1 := by omega
      rw [this]
      apply BitVec.eq_of_toNat_eq
      simp
      omega
    · simp only [Ideal.cmp, h0, Scalar.select, decide_false, en]
      show 127#32 - (BitVec.ofNat 32 n - 126#32) = _
      have : (127 - ((n : ℤ) - 126)).toNat = 253 - n := by omega
      rw [this]
      apply BitVec.eq_of_toNat_eq
      simp
      omega

/-- The kernel's scale is the reference's. -/
theorem scale_eq (a : EReal) (ha : 0 ≤ a) : scaleK a = scaleR a := by
  obtain ⟨z, h1, h2, er, ek, -⟩ := expo_eq a ha
  unfold scaleK scaleR
  rw [er, ek]
  refine (ofBits_shl (z + 127).toNat (by omega) (by omega)).trans (Eq.trans ?_ (exp2_int z).symm)
  congr 1
  omega

/-- The kernel's reciprocal scale is the reference's. -/
theorem inv_eq (a : EReal) (ha : 0 ≤ a) : invK a = invR a := by
  obtain ⟨z, h1, h2, er, -, ek⟩ := expo_eq a ha
  unfold invK invR
  rw [er, ek, c_zero]
  have : (FloatOps.subf (0 : EReal) (((z : ℤ) : ℝ) : EReal) : Ideal .f32) = (((-z : ℤ) : ℝ) : EReal) := by
    show (0 : EReal) - _ = _
    rw [zero_sub]; push_cast; rfl
  refine (ofBits_shl (127 - z).toNat (by omega) (by omega)).trans (Eq.trans ?_ ((congrArg Ideal.exp2 this).trans (exp2_int (-z))).symm)
  congr 1
  omega

end Cert.Exponent

end
-- ==== Proof.Row.lean ====
/- One row of the layer over the extended reals: its dequantised elements, its largest absolute value, and a code from an
   element and the row's reciprocal scale. The kernel takes the row in five stretches of 512 columns; the largest
   absolute value of the row is the largest of the five stretches'. -/
module

public import Idealize.ShloMosaic.PureOps.Ideal.Laws

@[expose] public section

noncomputable section

namespace Cert.Row

open Idealize.ShloMosaic

/-- A dequantised element: the product of a row of codes and a column of codes, times the two scales. -/
def val (x w : Fin 5120 → EReal) (s t : EReal) : EReal := (∑ k, x k * w k) * s * t

/-- The largest absolute value of a row or of a stretch of it, folded from minus infinity. -/
def rowMax {n : ℕ} (y : Fin n → EReal) : EReal :=
  Finset.univ.fold max (Ideal.ofBits .f32 0xFF800000#32) fun c => (FloatOps.absf (y c : Ideal .f32) : Ideal .f32)

/-- A code before its change of format: the element times the reciprocal scale, clipped to ±448. -/
def code (y i : EReal) : EReal := min (Ideal.ofBits .f32 0x43E00000#32) (max (Ideal.ofBits .f32 0xC3E00000#32) (y * i))

/-- An absolute value is not negative. -/
theorem absf_nonneg (y : EReal) : 0 ≤ (FloatOps.absf (y : Ideal .f32) : Ideal .f32) := by
  rw [Ideal.absf_def]
  rcases le_total 0 y with h | h
  · exact h.trans (le_max_left _ _)
  · exact (EReal.neg_nonneg.mpr h).trans (le_max_right _ _)

/-- The largest absolute value of a row with an element is not negative. -/
theorem rowMax_nonneg {n : ℕ} (y : Fin n → EReal) (c : Fin n) : 0 ≤ rowMax y :=
  (absf_nonneg (y c)).trans (Finset.le_fold_max _ |>.mpr (.inr ⟨c, Finset.mem_univ c, le_rfl⟩))

/-- A bound on the largest absolute value is a bound on every absolute value, and on the fold's start. -/
theorem rowMax_le {n : ℕ} (y : Fin n → EReal) (b : EReal) : rowMax y ≤ b ↔
    Ideal.ofBits .f32 0xFF800000#32 ≤ b ∧ ∀ c, (FloatOps.absf (y c : Ideal .f32) : Ideal .f32) ≤ b := by
  unfold rowMax
  rw [Finset.fold_max_le]
  simp

/-- The largest absolute value of 2560 elements is the largest of the five stretches of 512. -/
theorem rowMax_stretches (y : Fin 2560 → EReal) :
    max (max (max (max (rowMax fun c : Fin 512 => y ⟨0 + c, by omega⟩) (rowMax fun c : Fin 512 => y ⟨512 + c, by omega⟩))
      (rowMax fun c : Fin 512 => y ⟨1024 + c, by omega⟩)) (rowMax fun c : Fin 512 => y ⟨1536 + c, by omega⟩))
      (rowMax fun c : Fin 512 => y ⟨2048 + c, by omega⟩) = rowMax y := by
  refine eq_of_forall_ge_iff fun b => ?_
  simp only [max_le_iff, rowMax_le]
  constructor
  · rintro ⟨⟨⟨⟨⟨h, h0⟩, -, h1⟩, -, h2⟩, -, h3⟩, -, h4⟩
    refine ⟨h, fun c => ?_⟩
    have key : ∀ (o : ℕ) (ho : o + 512 ≤ 2560) (_ : ∀ d : Fin 512, (FloatOps.absf (y ⟨o + d, by omega⟩ : Ideal .f32) : Ideal .f32) ≤ b)
        (_ : o ≤ c) (_ : (c : ℕ) < o + 512), (FloatOps.absf (y c : Ideal .f32) : Ideal .f32) ≤ b := by
      intro o ho hd h1 h2
      have := hd ⟨c - o, by omega⟩
      have e : (⟨o + (c - o : ℕ), by omega⟩ : Fin 2560) = c := Fin.ext (by simp; omega)
      rwa [e] at this
    by_cases c0 : (c : ℕ) < 512
    · exact key 0 (by omega) h0 (by omega) (by omega)
    by_cases c1 : (c : ℕ) < 1024
    · exact key 512 (by omega) h1 (by omega) (by omega)
    by_cases c2 : (c : ℕ) < 1536
    · exact key 1024 (by omega) h2 (by omega) (by omega)
    by_cases c3 : (c : ℕ) < 2048
    · exact key 1536 (by omega) h3 (by omega) (by omega)
    · exact key 2048 (by omega) h4 (by omega) (by omega)
  · rintro ⟨h, hc⟩
    exact ⟨⟨⟨⟨⟨h, fun d => hc _⟩, h, fun d => hc _⟩, h, fun d => hc _⟩, h, fun d => hc _⟩, h, fun d => hc _⟩

end Cert.Row

end
-- ==== Proof.Payload.lean ====
/- The kernel's body at one grid point, over the blocks it reads: each stretch of 512 columns it computes is the
   dequantised product of the point's rows and those columns; its running maximum is the row's largest absolute value;
   its scale and its reciprocal scale are the searched powers of two of that. -/
module

public import proofs.«01_k».proof.Proof.Gen.KernelIdeal.Skeleton
public import proofs.«01_k».proof.Proof.Exponent
public import proofs.«01_k».proof.Proof.Row
public import Idealize.ShloMosaic.Lib.Pipeline.ValueKit
public import Idealize.ShloMosaic.Lib.Pointwise

@[expose] public section

set_option maxRecDepth 16384

noncomputable section

namespace Cert.KernelIdeal.Payload

open Cert.KernelIdeal Cert.KernelIdeal.Gen Idealize.ShloMosaic

variable (x0 : Vec Ideal S512x5120 .fp8e4m3) (x1 : Vec Ideal S512x1 .f32) (x2 : Vec Ideal S5120x2560 .fp8e4m3)
  (x3 : Vec Ideal S1x2560 .f32)

/-- The dequantised element in row `r` of the point's block and column `c`. -/
def Y (r : Fin 512) (c : Fin 2560) : EReal :=
  Row.val (fun k => x0 (ix2 r k)) (fun k => x2 (ix2 k c)) (x1 (ix2 r 0)) (x3 (ix2 0 c))

/-- The largest absolute value in row `r` of the point's block. -/
def amax (r : Fin 512) : EReal := Row.rowMax (Y x0 x1 x2 x3 r)

/-- The 512 columns of the weights from column `o` on. -/
abbrev wAt (o : ℕ) (h : ∀ a, (![0, o] : Fin 2 → ℕ) a + (![5120, 512] : Fin 2 → ℕ) a ≤ S5120x2560.size a) : Vec Ideal S5120x512 .fp8e4m3 :=
  View.ld x2 (Rect.unit ![0, o] ![5120, 512] h)

/-- The 512 weight scales from column `o` on. -/
abbrev sAt (o : ℕ) (h : ∀ a, (![0, o] : Fin 2 → ℕ) a + (![1, 512] : Fin 2 → ℕ) a ≤ S1x2560.size a) : Vec Ideal S1x512 .f32 :=
  View.ld x3 (Rect.unit ![0, o] ![1, 512] h)

/-- A stretch's element in row `r` and column `c` of the stretch from column `o` on. -/
theorem stretch (o : ℕ) (ho : o + 512 ≤ 2560) (h2 : ∀ a, (![0, o] : Fin 2 → ℕ) a + (![5120, 512] : Fin 2 → ℕ) a ≤ S5120x2560.size a)
    (h3 : ∀ a, (![0, o] : Fin 2 → ℕ) a + (![1, 512] : Fin 2 → ℕ) a ≤ S1x2560.size a) (r c : Fin 512) :
    k0_pay4 x1 x0 (wAt x2 o h2) (sAt x3 o h3) (ix2 r c) = Y x0 x1 x2 x3 r ⟨o + c, by omega⟩ := by
  pointwise [k0_pay4, k0_pay3, wAt, sAt]
  rfl

/-- The other stretches' payloads are the first's, over their own operands. -/
theorem pay6_eq (w : Vec Ideal S5120x512 .fp8e4m3) (s : Vec Ideal S1x512 .f32) : k0_pay6 x1 x0 w s = k0_pay4 x1 x0 w s := rfl
theorem pay9_eq (w : Vec Ideal S5120x512 .fp8e4m3) (s : Vec Ideal S1x512 .f32) :
    k0_pay9 (k0_pay3 x1) x0 w s = k0_pay4 x1 x0 w s := rfl
theorem pay11_eq (w : Vec Ideal S5120x512 .fp8e4m3) (s : Vec Ideal S1x512 .f32) :
    k0_pay11 (k0_pay3 x1) x0 w s = k0_pay4 x1 x0 w s := rfl
theorem pay15_eq (w : Vec Ideal S5120x512 .fp8e4m3) (s : Vec Ideal S1x512 .f32) :
    k0_pay15 (k0_pay3 x1) (k0_pay14 x0) w (constant S512x512 .f32 0#32) s = k0_pay4 x1 x0 w s := rfl

/-- The largest absolute value of a block of 512 columns in row `r`, as the kernel reduces it. -/
theorem reduce_row (y : Vec Ideal S512x512 .f32) (i : S512x1.Idx) :
    shapeCast S512x1 (multiReduction (F := Ideal) (φ := .f32) .maximumf [1] S512 (absf (F := Ideal) (φ := .f32) y) 0xFF800000#32
      reduces_S512x512_S512 (.inl rfl) rfl) shapeCasts_S512_S512x1 i = Row.rowMax fun c => y (ix2 (i 0) c) := by
  pointwise
  rfl

/-- The running maximum after the five stretches, as the kernel's payloads compose. -/
abbrev runMax : FVec Ideal S512x1 .f32 :=
  k0_pay17 (k0_pay3 x1)
    (k0_pay13 (k0_pay3 x1)
      (k0_pay8 x1 x0 (wAt x2 0 inb_S5120x2560_S5120x512_0_0) (sAt x3 0 inb_S1x2560_S1x512_0_0)
        x0 (wAt x2 512 inb_S5120x2560_S5120x512_0_512) (sAt x3 512 inb_S1x2560_S1x512_0_512))
      x0 (wAt x2 1024 inb_S5120x2560_S5120x512_0_1024) (sAt x3 1024 inb_S1x2560_S1x512_0_1024)
      x0 (wAt x2 1536 inb_S5120x2560_S5120x512_0_1536) (sAt x3 1536 inb_S1x2560_S1x512_0_1536))
    (k0_pay14 x0) (wAt x2 2048 inb_S5120x2560_S5120x512_0_2048) (constant S512x512 .f32 0#32)
    (sAt x3 2048 inb_S1x2560_S1x512_0_2048)

/-- The running maximum over 448, the same way. -/
abbrev runRatio : FVec Ideal S512x1 .f32 :=
  k0_pay18 (k0_pay3 x1)
    (k0_pay13 (k0_pay3 x1)
      (k0_pay8 x1 x0 (wAt x2 0 inb_S5120x2560_S5120x512_0_0) (sAt x3 0 inb_S1x2560_S1x512_0_0)
        x0 (wAt x2 512 inb_S5120x2560_S5120x512_0_512) (sAt x3 512 inb_S1x2560_S1x512_0_512))
      x0 (wAt x2 1024 inb_S5120x2560_S5120x512_0_1024) (sAt x3 1024 inb_S1x2560_S1x512_0_1024)
      x0 (wAt x2 1536 inb_S5120x2560_S5120x512_0_1536) (sAt x3 1536 inb_S1x2560_S1x512_0_1536))
    (k0_pay14 x0) (wAt x2 2048 inb_S5120x2560_S5120x512_0_2048) (constant S512x512 .f32 0#32)
    (sAt x3 2048 inb_S1x2560_S1x512_0_2048)

/-- The exponent search's first four comparisons, the same way. -/
abbrev runSearch : IVec S512x1 32 :=
  k0_pay19 (k0_pay3 x1)
    (k0_pay13 (k0_pay3 x1)
      (k0_pay8 x1 x0 (wAt x2 0 inb_S5120x2560_S5120x512_0_0) (sAt x3 0 inb_S1x2560_S1x512_0_0)
        x0 (wAt x2 512 inb_S5120x2560_S5120x512_0_512) (sAt x3 512 inb_S1x2560_S1x512_0_512))
      x0 (wAt x2 1024 inb_S5120x2560_S5120x512_0_1024) (sAt x3 1024 inb_S1x2560_S1x512_0_1024)
      x0 (wAt x2 1536 inb_S5120x2560_S5120x512_0_1536) (sAt x3 1536 inb_S1x2560_S1x512_0_1536))
    (k0_pay14 x0) (wAt x2 2048 inb_S5120x2560_S5120x512_0_2048) (constant S512x512 .f32 0#32)
    (sAt x3 2048 inb_S1x2560_S1x512_0_2048)

/-- The largest absolute value of the stretch from column `o` on, in a row. -/
theorem stretch_max (o : ℕ) (ho : o + 512 ≤ 2560)
    (h2 : ∀ a, (![0, o] : Fin 2 → ℕ) a + (![5120, 512] : Fin 2 → ℕ) a ≤ S5120x2560.size a)
    (h3 : ∀ a, (![0, o] : Fin 2 → ℕ) a + (![1, 512] : Fin 2 → ℕ) a ≤ S1x2560.size a) (i : S512x1.Idx) :
    shapeCast S512x1 (multiReduction (F := Ideal) (φ := .f32) .maximumf [1] S512
      (absf (F := Ideal) (φ := .f32) (k0_pay4 x1 x0 (wAt x2 o h2) (sAt x3 o h3))) 0xFF800000#32
      reduces_S512x512_S512 (.inl rfl) rfl) shapeCasts_S512_S512x1 i
      = Row.rowMax fun c : Fin 512 => Y x0 x1 x2 x3 (i 0) ⟨o + c, by omega⟩ := by
  rw [reduce_row]
  exact congrArg Row.rowMax (funext fun c => stretch x0 x1 x2 x3 o ho h2 h3 (i 0) c)

/-- The running maximum in a row is the row's largest absolute value. -/
theorem runMax_apply (i : S512x1.Idx) : runMax x0 x1 x2 x3 i = amax x0 x1 x2 x3 (i 0) := by
  refine Eq.trans ?_ (Row.rowMax_stretches (Y x0 x1 x2 x3 (i 0)))
  unfold runMax k0_pay17 k0_pay13 k0_pay8
  simp only [pay6_eq, pay9_eq, pay11_eq, pay15_eq]
  refine congrArg₂ max (congrArg₂ max (congrArg₂ max (congrArg₂ max ?_ ?_) ?_) ?_) ?_
  · exact stretch_max x0 x1 x2 x3 0 (by omega) _ _ i
  · exact stretch_max x0 x1 x2 x3 512 (by omega) _ _ i
  · exact stretch_max x0 x1 x2 x3 1024 (by omega) _ _ i
  · exact stretch_max x0 x1 x2 x3 1536 (by omega) _ _ i
  · exact stretch_max x0 x1 x2 x3 2048 (by omega) _ _ i

/-- The search's first four comparisons are made on the running maximum over 448. -/
theorem runRatio_apply (i : S512x1.Idx) : runRatio x0 x1 x2 x3 i = Exponent.ratio (amax x0 x1 x2 x3 (i 0)) := by
  rw [← runMax_apply]; rfl

theorem runSearch_apply (i : S512x1.Idx) :
    runSearch x0 x1 x2 x3 i = Exponent.searchHi (Exponent.ratio (amax x0 x1 x2 x3 (i 0))) := by
  rw [← runRatio_apply]; rfl

/-- The last four comparisons and the exponent, at a row, from a maximum, a ratio and a field. -/
theorem pay20_apply (a v : FVec Ideal S512x1 .f32) (f : IVec S512x1 32) (i : S512x1.Idx) :
    k0_pay20 (F := Ideal) a v f i
      = Scalar.select (FloatOps.cmpf (F := Ideal) (φ := .f32) .oeq (a i) (Scalar.ofBits .f32 0x00000000#32)) 0#32
          (IntOp.subi (Exponent.step (v i) (Exponent.step (v i) (Exponent.step (v i) (Exponent.step (v i) (f i) 8#32) 4#32) 2#32) 1#32)
            126#32) := rfl

/-- The kernel's exponent in a row. -/
theorem expo_apply (i : S512x1.Idx) :
    k0_pay20 (F := Ideal) (runMax x0 x1 x2 x3) (runRatio x0 x1 x2 x3) (runSearch x0 x1 x2 x3) i
      = Exponent.expoK (amax x0 x1 x2 x3 (i 0)) := by
  rw [pay20_apply, runMax_apply, runRatio_apply, runSearch_apply]
  rfl

/-- The kernel's scale in a row. -/
theorem scale_apply (i : S512x1.Idx) :
    k0_pay21 (F := Ideal) (runMax x0 x1 x2 x3) (runRatio x0 x1 x2 x3) (runSearch x0 x1 x2 x3) i
      = Exponent.scaleK (amax x0 x1 x2 x3 (i 0)) := by
  unfold Exponent.scaleK
  rw [← expo_apply]
  rfl

/-- The kernel's reciprocal scale in a row. -/
theorem inv_apply (i : S512x1.Idx) :
    k0_pay23 (F := Ideal) (k0_pay22 (F := Ideal) (runMax x0 x1 x2 x3) (runRatio x0 x1 x2 x3) (runSearch x0 x1 x2 x3)) 23#32 i
      = Exponent.invK (amax x0 x1 x2 x3 (i 0)) := by
  unfold Exponent.invK
  rw [← expo_apply]
  rfl

/-- A block of codes, from elements and a column of reciprocal scales. -/
theorem codes_apply (v : FVec Ideal S512x1 .f32) (y : Vec Ideal S512x512 .f32) (r c : Fin 512) :
    k0_pay2 (F := Ideal) v y (ix2 r c) = Row.code (y (ix2 r c)) (v (ix2 r 0)) := by
  pointwise [k0_pay2]
  rfl

/-- The five stretches' codes are one payload of their elements. -/
theorem pay24_eq (e : IVec S512x1 32) (y : Vec Ideal S512x512 .f32) :
    k0_pay24 (F := Ideal) e 23#32 y = k0_pay2 (F := Ideal) (k0_pay23 (F := Ideal) e 23#32) y := rfl
theorem pay25_eq (e : IVec S512x1 32) (y : Vec Ideal S512x512 .f32) :
    k0_pay25 (F := Ideal) e 23#32 y = k0_pay2 (F := Ideal) (k0_pay23 (F := Ideal) e 23#32) y := rfl
theorem pay26_eq (e : IVec S512x1 32) (y : Vec Ideal S512x512 .f32) :
    k0_pay26 (F := Ideal) e 23#32 y = k0_pay2 (F := Ideal) (k0_pay23 (F := Ideal) e 23#32) y := rfl
theorem pay27_eq (e : IVec S512x1 32) (y : Vec Ideal S512x512 .f32) :
    k0_pay1 (F := Ideal) (Scalar.ofBits .f32 0x43E00000#32) (k0_pay27 (F := Ideal) e 23#32 y)
      = k0_pay2 (F := Ideal) (k0_pay23 (F := Ideal) e 23#32) y := rfl

/-- The codes of the stretch from column `o` on. -/
theorem stretch_codes (o : ℕ) (ho : o + 512 ≤ 2560)
    (h2 : ∀ a, (![0, o] : Fin 2 → ℕ) a + (![5120, 512] : Fin 2 → ℕ) a ≤ S5120x2560.size a)
    (h3 : ∀ a, (![0, o] : Fin 2 → ℕ) a + (![1, 512] : Fin 2 → ℕ) a ≤ S1x2560.size a) (r c : Fin 512) :
    k0_pay2 (F := Ideal) (k0_pay23 (F := Ideal)
        (k0_pay22 (F := Ideal) (runMax x0 x1 x2 x3) (runRatio x0 x1 x2 x3) (runSearch x0 x1 x2 x3)) 23#32)
        (k0_pay4 x1 x0 (wAt x2 o h2) (sAt x3 o h3)) (ix2 r c)
      = Row.code (Y x0 x1 x2 x3 r ⟨o + c, by omega⟩) (Exponent.invK (amax x0 x1 x2 x3 r)) := by
  rw [codes_apply, inv_apply, stretch x0 x1 x2 x3 o ho h2 h3]
  rfl

/-- What the kernel stores of a stretch, and loads again, is the stretch's elements. -/
theorem pay5_eq (w : Vec Ideal S5120x512 .fp8e4m3) (s : Vec Ideal S1x512 .f32) : k0_pay5 x1 x0 w s = k0_pay4 x1 x0 w s :=
  shapeCast_self _ _
theorem pay7_eq (w : Vec Ideal S5120x512 .fp8e4m3) (s : Vec Ideal S1x512 .f32) : k0_pay7 x1 x0 w s = k0_pay4 x1 x0 w s :=
  shapeCast_self _ _
theorem pay10_eq (w : Vec Ideal S5120x512 .fp8e4m3) (s : Vec Ideal S1x512 .f32) :
    k0_pay10 (k0_pay3 x1) x0 w s = k0_pay4 x1 x0 w s := shapeCast_self _ _
theorem pay12_eq (w : Vec Ideal S5120x512 .fp8e4m3) (s : Vec Ideal S1x512 .f32) :
    k0_pay12 (k0_pay3 x1) x0 w s = k0_pay4 x1 x0 w s := shapeCast_self _ _
theorem pay16_eq (w : Vec Ideal S5120x512 .fp8e4m3) (s : Vec Ideal S1x512 .f32) :
    k0_pay16 (k0_pay3 x1) (k0_pay14 x0) w (constant S512x512 .f32 0#32) s = k0_pay4 x1 x0 w s := shapeCast_self _ _

/-- The codes of a stretch at its element `x`, named by where the element `i` lies in the block. -/
theorem piece (o : ℕ) (ho : o + 512 ≤ 2560)
    (h2 : ∀ a, (![0, o] : Fin 2 → ℕ) a + (![5120, 512] : Fin 2 → ℕ) a ≤ S5120x2560.size a)
    (h3 : ∀ a, (![0, o] : Fin 2 → ℕ) a + (![1, 512] : Fin 2 → ℕ) a ≤ S1x2560.size a) (x : S512x512.Idx) (i : S512x2560.Idx)
    (e0 : (i 0 : ℕ) = x 0) (e1 : (i 1 : ℕ) = o + x 1) :
    k0_pay2 (F := Ideal) (k0_pay23 (F := Ideal)
        (k0_pay22 (F := Ideal) (runMax x0 x1 x2 x3) (runRatio x0 x1 x2 x3) (runSearch x0 x1 x2 x3)) 23#32)
        (k0_pay4 x1 x0 (wAt x2 o h2) (sAt x3 o h3)) x
      = Row.code (Y x0 x1 x2 x3 (i 0) (i 1)) (Exponent.invK (amax x0 x1 x2 x3 (i 0))) := by
  obtain ⟨r, c, rfl⟩ : ∃ r c : Fin 512, x = ix2 r c := ⟨x 0, x 1, eq_ix2 x⟩
  obtain ⟨a, b, rfl⟩ : ∃ (a : Fin 512) (b : Fin 2560), i = ix2 a b := ⟨i 0, i 1, eq_ix2 i⟩
  obtain rfl : a = r := Fin.ext e0
  have hlt : o + (c : ℕ) < 2560 := by omega
  have hb : b = (⟨o + (c : ℕ), hlt⟩ : Fin 2560) := Fin.ext e1
  subst hb
  exact stretch_codes x0 x1 x2 x3 o ho h2 h3 a c

end Cert.KernelIdeal.Payload

end
-- ==== Proof.Block.lean ====
/- What the kernel's body leaves in its two output blocks at one grid point: the codes and the scales of the point's rows. -/
module

public import proofs.«01_k».proof.Proof.Gen.KernelIdeal.Value
public import proofs.«01_k».proof.Proof.Payload
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Cert.KernelIdeal.Payload Idealize.ShloMosaic Idealize.ShloMosaic.TcCoe
open Idealize.SL.Sem

variable (m : (ℓ : Loc nD τ sig) → Buf (Elt Ideal) ℓ)

/-- The scale block at a grid point: each row's searched scale. -/
theorem scale_block (c : Dev nD) (t : Fin cfg0.N) (i : S512x1.Idx) :
    (outsAt0 m c t).2 i
      = Exponent.scaleK (amax (iblk m c 0 t) (iblk m c 1 t) (iblk m c 2 t) (iblk m c 3 t) (i 0)) := by
  unfold outsAt0
  frame_out
  exact scale_apply _ _ _ _ i

/-- The code block at a grid point: the five stretches the body stores are one block of codes. -/
theorem code_block (c : Dev nD) (t : Fin cfg0.N) (i : S512x2560.Idx) :
    (outsAt0 m c t).1 i
      = Row.code (Y (iblk m c 0 t) (iblk m c 1 t) (iblk m c 2 t) (iblk m c 3 t) (i 0) (i 1))
          (Exponent.invK (amax (iblk m c 0 t) (iblk m c 1 t) (iblk m c 2 t) (iblk m c 3 t) (i 0))) := by
  unfold outsAt0
  frame_open
  simp (disch := decide) only [↓ View.readCov_skip, ↓ View.readCov_cons_toLoadRect, ↓ View.readCov_fill]
  frame_out
  simp only [pay24_eq, pay25_eq, pay26_eq, pay27_eq]
  canon_tiles x h
  · rw [pay16_eq]
    exact piece _ _ _ _ 2048 (by omega) _ _ x i h0 h1
  · rw [pay12_eq]
    exact piece _ _ _ _ 1536 (by omega) _ _ x i h0 h1
  · rw [pay10_eq]
    exact piece _ _ _ _ 1024 (by omega) _ _ x i h0 h1
  · rw [pay7_eq]
    exact piece _ _ _ _ 512 (by omega) _ _ x i h0 h1
  · rw [pay5_eq]
    exact piece _ _ _ _ 0 (by omega) _ _ x i h0 (by omega)

end Cert.KernelIdeal.Block

end
-- ==== Proof.Layer.lean ====
/- The layer over the extended reals, as functions of its four operands at their coordinates: both programs leave these
   codes and scales. -/
module

public import proofs.«01_k».proof.Proof.Exponent
public import proofs.«01_k».proof.Proof.Row

@[expose] public section

noncomputable section

namespace Cert.Layer

open Idealize.ShloMosaic

variable (x : Fin 6144 → Fin 5120 → EReal) (w : Fin 5120 → Fin 2560 → EReal) (s : Fin 6144 → EReal) (t : Fin 2560 → EReal)

/-- The dequantised matrix product at row `r` and column `c`. -/
def elem (r : Fin 6144) (c : Fin 2560) : EReal := Row.val (x r) (fun k => w k c) (s r) (t c)

/-- The scale of row `r`: the power of two the quantiser picks from the row's largest absolute value. -/
def scale (r : Fin 6144) : EReal := Exponent.scaleR (Row.rowMax (elem x w s t r))

/-- The code at row `r` and column `c`, a number the 8-bit format's range bounds. -/
def code (r : Fin 6144) (c : Fin 2560) : EReal :=
  Row.code (elem x w s t r c) (Exponent.invR (Row.rowMax (elem x w s t r)))

/-- The searched scale of a row is the layer's. -/
theorem scale_search (r : Fin 6144) : Exponent.scaleK (Row.rowMax (elem x w s t r)) = scale x w s t r :=
  Exponent.scale_eq _ (Row.rowMax_nonneg _ 0)

/-- The code under the searched reciprocal scale is the layer's. -/
theorem code_search (r : Fin 6144) (c : Fin 2560) :
    Row.code (elem x w s t r c) (Exponent.invK (Row.rowMax (elem x w s t r))) = code x w s t r c :=
  congrArg (Row.code _) (Exponent.inv_eq _ (Row.rowMax_nonneg _ 0))

end Cert.Layer

end
-- ==== Proof.Array.lean ====
/- The two arrays the kernel leaves: at every index the layer's code and the layer's scale of the operands as launched. -/
module

public import proofs.«01_k».proof.Defs
public import proofs.«01_k».proof.Proof.Block
public import proofs.«01_k».proof.Proof.Layer
public import Idealize.ShloMosaic.Lib.Claim

@[expose] public section

set_option maxRecDepth 16384

noncomputable section

namespace Cert.KernelIdeal.Array

open Cert.KernelIdeal Cert.KernelIdeal.Gen Cert.KernelIdeal.Payload Idealize.ShloMosaic Idealize.ShloMosaic.TcCoe
open Idealize.SL.Sem

variable (m : (ℓ : Loc nD τ sig) → Buf (Elt Ideal) ℓ)

/-- The activations' codes, by row and column. -/
abbrev X (c : Dev nD) (r : Fin 6144) (k : Fin 5120) : EReal := m ((c : Thread nD τ).loc main_arg0) (ix3 0 r k)
/-- The activations' scales, by row. -/
abbrev S (c : Dev nD) (r : Fin 6144) : EReal := m ((c : Thread nD τ).loc main_arg1) (ix3 0 r 0)
/-- The weights' codes, by row and column. -/
abbrev W (c : Dev nD) (k : Fin 5120) (j : Fin 2560) : EReal := m ((c : Thread nD τ).loc main_arg2) (ix2 k j)
/-- The weights' scales, by column. -/
abbrev T (c : Dev nD) (j : Fin 2560) : EReal := m ((c : Thread nD τ).loc main_arg3) (ix2 0 j)

/-- Where each operand's block lies at grid point `t`: the rows from `512 t` on, or the whole array. -/
theorem idx : ∀ t : Fin cfg0.N, win0_0.index t = ![(t : ℕ), 0] ∧ win0_1.index t = ![(t : ℕ), 0] ∧ win0_2.index t = ![0, 0]
    ∧ win0_3.index t = ![0, 0] ∧ win0_4.index t = ![(t : ℕ), 0] ∧ win0_5.index t = ![(t : ℕ), 0] :=
  (by decide +kernel : ∀ t : Fin grid0.N, _)

/-- Row `r` of point `t`'s block is a row of the array. -/
theorem row_lt (t : Fin cfg0.N) (r : Fin 512) : (t : ℕ) * 512 + r < 6144 := by
  have h : (t : ℕ) < 12 := t.isLt
  omega

theorem read0 (c : Dev nD) (t : Fin cfg0.N) (r : Fin 512) (k : Fin 5120) :
    iblk m c 0 t (ix2 r k) = X m c ⟨(t : ℕ) * 512 + r, row_lt t r⟩ k := by
  blk_ext! [iblk, V, idx t]
theorem read1 (c : Dev nD) (t : Fin cfg0.N) (r : Fin 512) :
    iblk m c 1 t (ix2 r 0) = S m c ⟨(t : ℕ) * 512 + r, row_lt t r⟩ := by
  blk_ext! [iblk, V, idx t]
theorem read2 (c : Dev nD) (t : Fin cfg0.N) (k : Fin 5120) (j : Fin 2560) : iblk m c 2 t (ix2 k j) = W m c k j := by
  blk_ext! [iblk, V, idx t]
theorem read3 (c : Dev nD) (t : Fin cfg0.N) (j : Fin 2560) : iblk m c 3 t (ix2 0 j) = T m c j := by
  blk_ext! [iblk, V, idx t]

/-- The elements of point `t`'s block are the layer's, from row `512 t` on. -/
theorem elem (c : Dev nD) (t : Fin cfg0.N) (r : Fin 512) :
    Y (iblk m c 0 t) (iblk m c 1 t) (iblk m c 2 t) (iblk m c 3 t) r
      = Layer.elem (X m c) (W m c) (S m c) (T m c) ⟨(t : ℕ) * 512 + r, row_lt t r⟩ := by
  funext j
  unfold Y Layer.elem
  simp only [read0, read1, read2, read3]

/-- Where an index of point `t`'s block of codes lies in the array. -/
theorem emb4 (t : Fin cfg0.N) (r : Fin 512) (j : Fin 2560) :
    (win0_4.blk t).view.emb (ix2 r j) = (ix2 ⟨(t : ℕ) * 512 + r, row_lt t r⟩ j : S6144x2560.Idx) := by
  blk_ext [idx t]

/-- Where an index of point `t`'s block of scales lies in the array. -/
theorem emb5 (t : Fin cfg0.N) (r : Fin 512) :
    (win0_5.blk t).view.emb (ix2 r 0) = (ix2 ⟨(t : ℕ) * 512 + r, row_lt t r⟩ 0 : S6144x1.Idx) := by
  blk_ext [idx t]

/-- Point `t`'s codes are the layer's, from row `512 t` on. -/
theorem block_codes (c : Dev nD) (t : Fin cfg0.N) (r : Fin 512) (j : Fin 2560) : (outsAt0 m c t).1 (ix2 r j)
    = Layer.code (X m c) (W m c) (S m c) (T m c) ⟨(t : ℕ) * 512 + r, row_lt t r⟩ j := by
  refine (Block.code_block m c t (ix2 r j)).trans ?_
  unfold amax
  show Row.code (Y (iblk m c 0 t) (iblk m c 1 t) (iblk m c 2 t) (iblk m c 3 t) r j)
    (Exponent.invK (Row.rowMax (Y (iblk m c 0 t) (iblk m c 1 t) (iblk m c 2 t) (iblk m c 3 t) r))) = _
  rw [elem, Layer.code_search]

/-- Point `t`'s scales are the layer's, from row `512 t` on. -/
theorem block_scales (c : Dev nD) (t : Fin cfg0.N) (r : Fin 512) : (outsAt0 m c t).2 (ix2 r 0)
    = Layer.scale (X m c) (W m c) (S m c) (T m c) ⟨(t : ℕ) * 512 + r, row_lt t r⟩ := by
  refine (Block.scale_block m c t (ix2 r 0)).trans ?_
  unfold amax
  show Exponent.scaleK (Row.rowMax (Y (iblk m c 0 t) (iblk m c 1 t) (iblk m c 2 t) (iblk m c 3 t) r)) = _
  rw [elem, Layer.scale_search]

/-- The layer's codes as an array. -/
def codeArray (c : Dev nD) : Vec Ideal S6144x2560 .fp8e4m3 :=
  fun i => Layer.code (X m c) (W m c) (S m c) (T m c) (i 0) (i 1)

/-- The layer's scales as an array. -/
def scaleArray (c : Dev nD) : Vec Ideal S6144x1 .f32 := fun i => Layer.scale (X m c) (W m c) (S m c) (T m c) (i 0)

/-- A block of codes is the array's, where the block lies. -/
theorem codes_at (c : Dev nD) (t : Fin cfg0.N) (y : Shape.Idx ⟨2, ![512, 2560]⟩) :
    (outsAt0 m c t).1 y = codeArray m c ((win0_4.blk t).view.emb y) := by
  obtain ⟨r, j, rfl⟩ : ∃ (r : Fin 512) (j : Fin 2560), y = ix2 r j := ⟨y 0, y 1, eq_ix2 y⟩
  rw [emb4]
  exact block_codes m c t r j

/-- A block of scales is the array's, where the block lies. -/
theorem scales_at (c : Dev nD) (t : Fin cfg0.N) (y : Shape.Idx ⟨2, ![512, 1]⟩) :
    (outsAt0 m c t).2 y = scaleArray m c ((win0_5.blk t).view.emb y) := by
  obtain ⟨r, z, rfl⟩ : ∃ (r : Fin 512) (z : Fin 1), y = ix2 r z := ⟨y 0, y 1, eq_ix2 y⟩
  obtain rfl : z = 0 := Subsingleton.elim _ _
  rw [emb5]
  exact block_scales m c t r

/-- The array of codes the kernel leaves. -/
theorem codes (c : Dev nD) : (dats m 0 c).arrAt 4 cfg0.N = codeArray m c := by
  refine (dats m 0 c).arrAt_eq_of_covers 4 (codeArray m c) (by decide +kernel) fun t hf y => ?_
  blk_simp
  rw [after0_4]
  exact codes_at m c t y

/-- The array of scales the kernel leaves. -/
theorem scales (c : Dev nD) : (dats m 0 c).arrAt 5 cfg0.N = scaleArray m c := by
  refine (dats m 0 c).arrAt_eq_of_covers 5 (scaleArray m c) (by decide +kernel) fun t hf y => ?_
  blk_simp
  rw [after0_5]
  exact scales_at m c t y

end Cert.KernelIdeal.Array

end
-- ==== Proof.RefBody.lean ====
/- The reference's body over the arrays it loads: its codes and scales are the layer's. -/
module

public import proofs.«01_k».proof.Proof.Gen.ReferenceIdeal.Skeleton
public import proofs.«01_k».proof.Proof.Layer
public import Idealize.ShloMosaic.Lib.Pipeline.ValueKit
public import Idealize.ShloMosaic.Lib.Pointwise

@[expose] public section

set_option maxRecDepth 16384

noncomputable section

namespace Cert.ReferenceIdeal.Body

open Cert.ReferenceIdeal Cert.ReferenceIdeal.Gen Idealize.ShloMosaic Idealize.ShloMosaic.TcCoe
open Idealize.SL.Sem

variable (P0 : Vec Ideal S6144x5120 .fp8e4m3) (P1 : Vec Ideal S5120x2560 .fp8e4m3) (P2 : Vec Ideal S6144x1 .f32)
  (P3 : Vec Ideal S1x2560 .f32)

/-- The layer's elements, from the arrays the body loads. -/
abbrev E : Fin 6144 → Fin 2560 → EReal :=
  Layer.elem (fun r k => P0 (ix2 r k)) (fun k j => P1 (ix2 k j)) (fun r => P2 (ix2 r 0)) (fun j => P3 (ix2 0 j))

/-- The dequantised product the body computes, at an index. -/
theorem product (r : Fin 6144) (j : Fin 2560) : k0_pay3 P0 P1 P2 P3 (ix2 r j) = E P0 P1 P2 P3 r j := by
  pointwise [k0_pay3]
  rfl

/-- The reduction over a row of a block of 2560 columns. -/
theorem reduce_row (y : Vec Ideal S6144x2560 .f32) (i : S6144x1.Idx) :
    shapeCast S6144x1 (multiReduction (F := Ideal) (φ := .f32) .maximumf [1] S6144 (absf (F := Ideal) (φ := .f32) y) 0xFF800000#32
      reduces_S6144x2560_S6144 (.inl rfl) rfl) shapeCasts_S6144_S6144x1 i = Row.rowMax fun j => y (ix2 (i 0) j) := by
  pointwise
  unfold Row.rowMax
  with_reducible rfl

/-- The largest absolute value of a row of the product. -/
theorem row_max (i : S6144x1.Idx) :
    shapeCast S6144x1 (multiReduction (F := Ideal) (φ := .f32) .maximumf [1] S6144
      (absf (F := Ideal) (φ := .f32) (k0_pay3 P0 P1 P2 P3)) 0xFF800000#32 reduces_S6144x2560_S6144 (.inl rfl) rfl)
      shapeCasts_S6144_S6144x1 i = Row.rowMax (E P0 P1 P2 P3 (i 0)) := by
  rw [reduce_row]
  exact congrArg Row.rowMax (funext fun j => product P0 P1 P2 P3 (i 0) j)

/-- A column of exponents, from the rows' largest absolute values. -/
theorem exponent_of (a : FVec Ideal S6144x1 .f32) (i : S6144x1.Idx) :
    select (cmpf (F := Ideal) (φ := .f32) .oeq a (broadcast S6144x1 (Scalar.ofBits .f32 0x00000000#32)))
      (broadcast S6144x1 (Scalar.ofBits .f32 0x00000000#32))
      (minimumf (F := Ideal) (φ := .f32) (broadcast S6144x1 (Scalar.ofBits .f32 0x42FC0000#32))
        (maximumf (F := Ideal) (φ := .f32) (broadcast S6144x1 (Scalar.ofBits .f32 0xC2FC0000#32))
          (addf (F := Ideal) (φ := .f32) (floor (F := Ideal) (φ := .f32) (divf (F := Ideal) (φ := .f32)
            (log (F := Ideal) (φ := .f32) (mulf (F := Ideal) (φ := .f32) a (broadcast S6144x1 (Scalar.ofBits .f32 0x3B124925#32))))
            (log (F := Ideal) (φ := .f32) (broadcast S6144x1 (Scalar.ofBits .f32 0x40000000#32)))))
            (broadcast S6144x1 (Scalar.ofBits .f32 0x3F800000#32))))) i
      = Exponent.expoR (a i) := rfl

/-- The exponent the body computes, in a row. -/
theorem exponent (i : S6144x1.Idx) :
    k0_pay4 P0 P1 P2 P3 i = Exponent.expoR (Row.rowMax (E P0 P1 P2 P3 (i 0))) := by
  rw [← row_max]
  exact exponent_of _ i

/-- A column of scales, from exponents. -/
theorem scale_of (e : FVec Ideal S6144x1 .f32) (i : S6144x1.Idx) : k0_pay2 e i = (FloatOps.exp2 (e i) : Ideal .f32) := rfl

/-- The scale the body computes, in a row. -/
theorem scale (r : Fin 6144) :
    k0_pay2 (k0_pay4 P0 P1 P2 P3) (ix2 r 0) = Exponent.scaleR (Row.rowMax (E P0 P1 P2 P3 r)) := by
  rw [scale_of, exponent]
  rfl

/-- A block of codes, from elements and a column of exponents. -/
theorem code_of (y : FVec Ideal S6144x2560 .f32) (e : FVec Ideal S6144x1 .f32) (r : Fin 6144) (j : Fin 2560) :
    truncf (F := Ideal) .fp8e4m3 (minimumf (F := Ideal) (φ := .f32) (broadcast S6144x2560 (Scalar.ofBits .f32 0x43E00000#32))
      (maximumf (F := Ideal) (φ := .f32) (broadcast S6144x2560 (Scalar.ofBits .f32 0xC3E00000#32))
        (mulf (F := Ideal) (φ := .f32) y (broadcastTo S6144x2560 (exp2 (F := Ideal) (φ := .f32)
          (subf (F := Ideal) (φ := .f32) (broadcast S6144x1 (Scalar.ofBits .f32 0x00000000#32)) e))
          broadcasts_S6144x1_S6144x2560)))) bitsLt_fp8e4m3_f32 (ix2 r j)
      = Row.code (y (ix2 r j)) (FloatOps.exp2 (FloatOps.subf (Scalar.ofBits .f32 0x00000000#32) (e (ix2 r 0) : Ideal .f32)) : Ideal .f32) := by
  generalize hv : exp2 (F := Ideal) (φ := .f32)
    (subf (F := Ideal) (φ := .f32) (broadcast S6144x1 (Scalar.ofBits .f32 0x00000000#32)) e) = v
  have hr : (FloatOps.exp2 (FloatOps.subf (Scalar.ofBits .f32 0x00000000#32) (e (ix2 r 0) : Ideal .f32)) : Ideal .f32) = v (ix2 r 0) := by
    rw [← hv]; rfl
  rw [hr]
  pointwise
  rfl

/-- The code the body computes, at an index. -/
theorem code (r : Fin 6144) (j : Fin 2560) : k0_pay1 (k0_pay5 P0 P1 P2 P3) (ix2 r j)
    = Row.code (E P0 P1 P2 P3 r j) (Exponent.invR (Row.rowMax (E P0 P1 P2 P3 r))) := by
  unfold k0_pay1 k0_pay5
  refine (code_of (k0_pay3 P0 P1 P2 P3) (k0_pay4 P0 P1 P2 P3) r j).trans ?_
  rw [product, exponent]
  rfl

end Cert.ReferenceIdeal.Body

end
-- ==== Proof.RefArray.lean ====
/- The two arrays the reference leaves: at every index the layer's code and the layer's scale of the operands as launched. -/
module

public import proofs.«01_k».proof.Defs
public import proofs.«01_k».proof.Proof.Gen.ReferenceIdeal.Frame
public import proofs.«01_k».proof.Proof.RefBody
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Array

open Cert.ReferenceIdeal Cert.ReferenceIdeal.Gen Cert.ReferenceIdeal.Body Idealize.ShloMosaic Idealize.ShloMosaic.TcCoe
open Idealize.SL.Sem

variable (m : (ℓ : Loc nD τ sig) → Buf (Elt Ideal) ℓ)

/-- The activations' codes, by row and column. -/
abbrev X (c : Dev nD) (r : Fin 6144) (k : Fin 5120) : EReal := m ((c : Thread nD τ).loc main_arg0) (ix3 0 r k)
/-- The activations' scales, by row. -/
abbrev S (c : Dev nD) (r : Fin 6144) : EReal := m ((c : Thread nD τ).loc main_arg1) (ix3 0 r 0)
/-- The weights' codes, by row and column. -/
abbrev W (c : Dev nD) (k : Fin 5120) (j : Fin 2560) : EReal := m ((c : Thread nD τ).loc main_arg2) (ix2 k j)
/-- The weights' scales, by column. -/
abbrev T (c : Dev nD) (j : Fin 2560) : EReal := m ((c : Thread nD τ).loc main_arg3) (ix2 0 j)

/-- Every operand's one block is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem read0 (c : Dev nD) (t : Fin cfg0.N) (r : Fin 6144) (k : Fin 5120) : iblk m c 0 t (ix2 r k) = X m c r k := by
  blk_ext! [iblk, V, idx t]
theorem read1 (c : Dev nD) (t : Fin cfg0.N) (r : Fin 6144) : iblk m c 1 t (ix2 r 0) = S m c r := by
  blk_ext! [iblk, V, idx t]
theorem read2 (c : Dev nD) (t : Fin cfg0.N) (k : Fin 5120) (j : Fin 2560) : iblk m c 2 t (ix2 k j) = W m c k j := by
  blk_ext! [iblk, V, idx t]
theorem read3 (c : Dev nD) (t : Fin cfg0.N) (j : Fin 2560) : iblk m c 3 t (ix2 0 j) = T m c j := by
  blk_ext! [iblk, V, idx t]

/-- The elements of the one block are the layer's. -/
theorem elem (c : Dev nD) (t : Fin cfg0.N) : E (iblk m c 0 t) (iblk m c 2 t) (iblk m c 1 t) (iblk m c 3 t)
    = Layer.elem (X m c) (W m c) (S m c) (T m c) := by
  funext r j
  unfold E Layer.elem
  simp only [read0, read1, read2, read3]

/-- What the body leaves in its block of codes. -/
theorem block_codes (c : Dev nD) (t : Fin cfg0.N) (r : Fin 6144) (j : Fin 2560) :
    out0_4 (iblk m c 0 t) (iblk m c 1 t) (iblk m c 2 t) (iblk m c 3 t) (ix2 r j)
      = Layer.code (X m c) (W m c) (S m c) (T m c) r j := by
  unfold out0_4
  frame_out
  refine (code (iblk m c 0 t) (iblk m c 2 t) (iblk m c 1 t) (iblk m c 3 t) r j).trans ?_
  rw [elem]
  rfl

/-- What the body leaves in its block of scales. -/
theorem block_scales (c : Dev nD) (t : Fin cfg0.N) (r : Fin 6144) :
    out0_5 (iblk m c 0 t) (iblk m c 1 t) (iblk m c 2 t) (iblk m c 3 t) (ix2 r 0)
      = Layer.scale (X m c) (W m c) (S m c) (T m c) r := by
  unfold out0_5
  frame_out
  refine (scale (iblk m c 0 t) (iblk m c 2 t) (iblk m c 1 t) (iblk m c 3 t) r).trans ?_
  rw [elem]
  rfl

/-- Where an index of the one block of codes lies in the array. -/
theorem emb4 (t : Fin cfg0.N) (r : Fin 6144) (j : Fin 2560) :
    (win0_4.blk t).view.emb (ix2 r j) = (ix2 r j : S6144x2560.Idx) := by
  blk_ext [idx t]

/-- Where an index of the one block of scales lies in the array. -/
theorem emb5 (t : Fin cfg0.N) (r : Fin 6144) : (win0_5.blk t).view.emb (ix2 r 0) = (ix2 r 0 : S6144x1.Idx) := by
  blk_ext [idx t]

/-- The layer's codes as an array. -/
def codeArray (c : Dev nD) : Vec Ideal S6144x2560 .fp8e4m3 :=
  fun i => Layer.code (X m c) (W m c) (S m c) (T m c) (i 0) (i 1)

/-- The layer's scales as an array. -/
def scaleArray (c : Dev nD) : Vec Ideal S6144x1 .f32 := fun i => Layer.scale (X m c) (W m c) (S m c) (T m c) (i 0)

/-- A block of codes is the array's, where the block lies. -/
theorem codes_at (c : Dev nD) (t : Fin cfg0.N) (y : Shape.Idx ⟨2, ![6144, 2560]⟩) :
    out0_4 (iblk m c 0 t) (iblk m c 1 t) (iblk m c 2 t) (iblk m c 3 t) y = codeArray m c ((win0_4.blk t).view.emb y) := by
  obtain ⟨r, j, rfl⟩ : ∃ (r : Fin 6144) (j : Fin 2560), y = ix2 r j := ⟨y 0, y 1, eq_ix2 y⟩
  rw [emb4]
  exact block_codes m c t r j

/-- A block of scales is the array's, where the block lies. -/
theorem scales_at (c : Dev nD) (t : Fin cfg0.N) (y : Shape.Idx ⟨2, ![6144, 1]⟩) :
    out0_5 (iblk m c 0 t) (iblk m c 1 t) (iblk m c 2 t) (iblk m c 3 t) y = scaleArray m c ((win0_5.blk t).view.emb y) := by
  obtain ⟨r, z, rfl⟩ : ∃ (r : Fin 6144) (z : Fin 1), y = ix2 r z := ⟨y 0, y 1, eq_ix2 y⟩
  obtain rfl : z = 0 := Subsingleton.elim _ _
  rw [emb5]
  exact block_scales m c t r

/-- The array of codes the reference leaves. -/
theorem codes (c : Dev nD) : (dats m 0 c).arrAt 4 cfg0.N = codeArray m c := by
  refine (dats m 0 c).arrAt_eq_of_covers 4 (codeArray m c) (by decide +kernel) fun t hf y => ?_
  blk_simp
  rw [after0_4]
  exact codes_at m c t y

/-- The array of scales the reference leaves. -/
theorem scales (c : Dev nD) : (dats m 0 c).arrAt 5 cfg0.N = scaleArray m c := by
  refine (dats m 0 c).arrAt_eq_of_covers 5 (scaleArray m c) (by decide +kernel) fun t hf y => ?_
  blk_simp
  rw [after0_5]
  exact scales_at m c t y

/-- The reference's run: the two arrays above, the arguments as launched. -/
theorem run_blocks (ρ : Dev nD → PrngReg) :
    θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.Array

end
-- ==== Proof.lean ====
module

public import proofs.«01_k».proof.Defs
public import proofs.«01_k».proof.Proof.Array
public import proofs.«01_k».proof.Proof.RefArray
public import proofs.«01_k».proof.Proof.Gen.KernelIdeal.Value
public import Idealize.ShloMosaic.Lib.Claim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The layer's codes agree when the operands do. -/
theorem codes_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Array.X m' c = Cert.KernelIdeal.Array.X m c)
    (h1 : Cert.ReferenceIdeal.Array.S m' c = Cert.KernelIdeal.Array.S m c)
    (h2 : Cert.ReferenceIdeal.Array.W m' c = Cert.KernelIdeal.Array.W m c)
    (h3 : Cert.ReferenceIdeal.Array.T m' c = Cert.KernelIdeal.Array.T m c) :
    Cert.ReferenceIdeal.Array.codeArray m' c = Cert.KernelIdeal.Array.codeArray m c
      ∧ Cert.ReferenceIdeal.Array.scaleArray m' c = Cert.KernelIdeal.Array.scaleArray m c := by
  unfold Cert.ReferenceIdeal.Array.codeArray Cert.ReferenceIdeal.Array.scaleArray
  rw [h0, h1, h2, h3]
  exact ⟨rfl, rfl⟩

/-- The kernel and the reference leave the same codes and the same scales. -/
theorem algebraic : Cert.algebraic_KernelIdeal_ReferenceIdeal (hKernelIdeal := Cert.KernelIdeal.Gen.facts)
    (hReferenceIdeal := Cert.ReferenceIdeal.Gen.facts) := by
  intro m g m' g' _ agree
  refine ⟨Cert.KernelIdeal.Array.codeArray m, Cert.KernelIdeal.Array.scaleArray m, ?_, ?_⟩
  · refine (θ_run _ _ _).mono (fun r h c => ?_) (Cert.KernelIdeal.Value.run_blocks m g)
    obtain ⟨h0, h1, ha⟩ := h c
    exact ⟨h0.trans (Cert.KernelIdeal.Array.codes m c), h1.trans (Cert.KernelIdeal.Array.scales m c), ha⟩
  · refine (θ_run _ _ _).mono (fun r h c => ?_) (Cert.ReferenceIdeal.Array.run_blocks m' g')
    obtain ⟨h0, h1, ha⟩ := h c
    obtain ⟨a0, a1, a2, a3⟩ := agree c
    have e := codes_agree m m' c (funext fun r => funext fun k => congrFun a0 (ix3 0 r k)) (funext fun r => congrFun a1 (ix3 0 r 0))
      (funext fun k => funext fun j => congrFun a2 (ix2 k j)) (funext fun j => congrFun a3 (ix2 0 j))
    exact ⟨(h0.trans (Cert.ReferenceIdeal.Array.codes m' c)).trans e.1,
      (h1.trans (Cert.ReferenceIdeal.Array.scales m' c)).trans e.2, ha⟩

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
